-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S4096x4x1024 : Shape := ⟨3, ![4096, 4, 1024]⟩
abbrev S4096x4 : Shape := ⟨2, ![4096, 4]⟩
abbrev S8192x1x1024 : Shape := ⟨3, ![8192, 1, 1024]⟩
abbrev S5x256 : Shape := ⟨2, ![5, 256]⟩
abbrev S3x256 : Shape := ⟨2, ![3, 256]⟩
abbrev S_ : Shape := ⟨0, ![]⟩

class Facts : Prop where
  bcast_S_S4096x4 : S_.BroadcastsInDim S4096x4 (![] : Fin 0 → Fin S4096x4.rank)

variable [Facts]

def fn {F : FTy → Type} [FloatOps F] (main_arg0 : FVec F S4096x4x1024 .f32) (main_arg1 : IVec S4096x4 32) (main_arg2 : IVec S4096x4 32) (main_arg3 : FVec F S8192x1x1024 .f32) (main_arg4 : FVec F S5x256 .f32) (main_arg5 : FVec F S3x256 .f32) : IVec S4096x4 1 :=
  let main_c : IVec S_ 32 := constantI S_ 32 0#32
  let main_v0 : IVec S4096x4 32 := broadcastInDim S4096x4 ![] bcast_S_S4096x4 main_c
  let main_v1 : IVec S4096x4 1 := cmpi .sge main_arg1 main_v0
  let main_c_0 : IVec S_ 32 := constantI S_ 32 5#32
  let main_v2 : IVec S4096x4 32 := broadcastInDim S4096x4 ![] bcast_S_S4096x4 main_c_0
  let main_v3 : IVec S4096x4 1 := cmpi .slt main_arg1 main_v2
  let main_v4 : IVec S4096x4 1 := andi main_v1 main_v3
  let main_c_1 : IVec S_ 32 := constantI S_ 32 0#32
  let main_v5 : IVec S4096x4 32 := broadcastInDim S4096x4 ![] bcast_S_S4096x4 main_c_1
  let main_v6 : IVec S4096x4 1 := cmpi .sge main_arg2 main_v5
  let main_v7 : IVec S4096x4 1 := andi main_v4 main_v6
  let main_c_2 : IVec S_ 32 := constantI S_ 32 3#32
  let main_v8 : IVec S4096x4 32 := broadcastInDim S4096x4 ![] bcast_S_S4096x4 main_c_2
  let main_v9 : IVec S4096x4 1 := cmpi .slt main_arg2 main_v8
  let main_v10 : IVec S4096x4 1 := andi main_v7 main_v9
  main_v10
-- ==== Kernel.lean ====
abbrev S4096x4x1024 : Shape := ⟨3, ![4096, 4, 1024]⟩
abbrev S4096x4 : Shape := ⟨2, ![4096, 4]⟩
abbrev S8192x1x1024 : Shape := ⟨3, ![8192, 1, 1024]⟩
abbrev S5x256 : Shape := ⟨2, ![5, 256]⟩
abbrev S3x256 : Shape := ⟨2, ![3, 256]⟩
abbrev S512 : Shape := ⟨1, ![512]⟩
abbrev S_ : Shape := ⟨0, ![]⟩
abbrev S512x2 : Shape := ⟨2, ![512, 2]⟩
abbrev S1024 : Shape := ⟨1, ![1024]⟩
abbrev S512x1 : Shape := ⟨2, ![512, 1]⟩
abbrev S1x1024 : Shape := ⟨2, ![1, 1024]⟩
abbrev S512x1024 : Shape := ⟨2, ![512, 1024]⟩
abbrev S8 : Shape := ⟨1, ![8]⟩
abbrev S8x1 : Shape := ⟨2, ![8, 1]⟩
abbrev S8x1024 : Shape := ⟨2, ![8, 1024]⟩
abbrev S8x1x1024 : Shape := ⟨3, ![8, 1, 1024]⟩
abbrev S512x4x1024 : Shape := ⟨3, ![512, 4, 1024]⟩
abbrev S512x4 : Shape := ⟨2, ![512, 4]⟩
abbrev S1x1x1024 : Shape := ⟨3, ![1, 1, 1024]⟩
abbrev S5x1024 : Shape := ⟨2, ![5, 1024]⟩
abbrev S3x1024 : Shape := ⟨2, ![3, 1024]⟩
abbrev S15x5 : Shape := ⟨2, ![15, 5]⟩
abbrev S15x3 : Shape := ⟨2, ![15, 3]⟩
abbrev S15x1024 : Shape := ⟨2, ![15, 1024]⟩
abbrev S512x4x15 : Shape := ⟨3, ![512, 4, 15]⟩
abbrev S512x4x1 : Shape := ⟨3, ![512, 4, 1]⟩
abbrev S512x1x1024 : Shape := ⟨3, ![512, 1, 1024]⟩

abbrev nBuf : Space → Nat
  | .hbm => 97
  | .vmem => 16
  | .smem => 0
  | _ => 0

abbrev bufTy : (tb : Table) → Fin (tcTables nBuf tb) → BufTy
  | .hbm, ⟨0, _⟩ => ⟨S4096x4x1024, .f32⟩
  | .hbm, ⟨1, _⟩ => ⟨S4096x4, .i32⟩
  | .hbm, ⟨2, _⟩ => ⟨S4096x4, .i32⟩
  | .hbm, ⟨3, _⟩ => ⟨S8192x1x1024, .f32⟩
  | .hbm, ⟨4, _⟩ => ⟨S5x256, .f32⟩
  | .hbm, ⟨5, _⟩ => ⟨S3x256, .f32⟩
  | .hbm, ⟨6, _⟩ => ⟨S512, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512x2, .f32⟩
  | .hbm, ⟨23, _⟩ => ⟨S1024, .f32⟩
  | .hbm, ⟨24, _⟩ => ⟨S512, .i32⟩
  | .hbm, ⟨25, _⟩ => ⟨S512x1, .i32⟩
  | .hbm, ⟨26, _⟩ => ⟨S512x1, .f32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S_, .i1⟩
  | .hbm, ⟨44, _⟩ => ⟨S1024, .i1⟩
  | .hbm, ⟨45, _⟩ => ⟨S1024, .i1⟩
  | .hbm, ⟨46, _⟩ => ⟨S1024, .i1⟩
  | .hbm, ⟨47, _⟩ => ⟨S1024, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S1x1024, .f32⟩
  | .hbm, ⟨54, _⟩ => ⟨S512x1024, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S1x1024, .f32⟩
  | .hbm, ⟨59, _⟩ => ⟨S512x1024, .f32⟩
  | .hbm, ⟨60, _⟩ => ⟨S512x1024, .f32⟩
  | .hbm, ⟨61, _⟩ => ⟨S512x1024, .f32⟩
  | .hbm, ⟨62, _⟩ => ⟨S512x1024, .f32⟩
  | .hbm, ⟨63, _⟩ => ⟨S_, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S1x1024, .f32⟩
  | .hbm, ⟨70, _⟩ => ⟨S512x1024, .f32⟩
  | .hbm, ⟨71, _⟩ => ⟨S512x1024, .f32⟩
  | .hbm, ⟨72, _⟩ => ⟨S8, .i32⟩
  | .hbm, ⟨73, _⟩ => ⟨S_, .i32⟩
  | .hbm, ⟨74, _⟩ => ⟨S8, .i32⟩
  | .hbm, ⟨75, _⟩ => ⟨S8, .i32⟩
  | .hbm, ⟨76, _⟩ => ⟨S8x1, .i32⟩
  | .hbm, ⟨77, _⟩ => ⟨S8x1, .f32⟩
  | .hbm, ⟨78, _⟩ => ⟨S1x1024, .f32⟩
  | .hbm, ⟨79, _⟩ => ⟨S8x1024, .f32⟩
  | .hbm, ⟨80, _⟩ => ⟨S8x1024, .f32⟩
  | .hbm, ⟨81, _⟩ => ⟨S8x1024, .f32⟩
  | .hbm, ⟨82, _⟩ => ⟨S8x1024, .f32⟩
  | .hbm, ⟨83, _⟩ => ⟨S1x1024, .f32⟩
  | .hbm, ⟨84, _⟩ => ⟨S8x1024, .f32⟩
  | .hbm, ⟨85, _⟩ => ⟨S8x1024, .f32⟩
  | .hbm, ⟨86, _⟩ => ⟨S8x1024, .f32⟩
  | .hbm, ⟨87, _⟩ => ⟨S8x1024, .f32⟩
  | .hbm, ⟨88, _⟩ => ⟨S1x1024, .i1⟩
  | .hbm, ⟨89, _⟩ => ⟨S8x1024, .i1⟩
  | .hbm, ⟨90, _⟩ => ⟨S8x1024, .f32⟩
  | .hbm, ⟨91, _⟩ => ⟨S8x1x1024, .f32⟩
  | .hbm, ⟨92, _⟩ => ⟨S1x1024, .i1⟩
  | .hbm, ⟨93, _⟩ => ⟨S8x1024, .i1⟩
  | .hbm, ⟨94, _⟩ => ⟨S8x1024, .f32⟩
  | .hbm, ⟨95, _⟩ => ⟨S8x1x1024, .f32⟩
  | .hbm, ⟨96, _⟩ => ⟨S4096x4x1024, .f32⟩
  | .local _ .vmem, ⟨0, _⟩ => ⟨S512x4x1024, .f32⟩
  | .local _ .vmem, ⟨1, _⟩ => ⟨S512x4x1024, .f32⟩
  | .local _ .vmem, ⟨2, _⟩ => ⟨S512x4, .i32⟩
  | .local _ .vmem, ⟨3, _⟩ => ⟨S512x4, .i32⟩
  | .local _ .vmem, ⟨4, _⟩ => ⟨S512x4, .i32⟩
  | .local _ .vmem, ⟨5, _⟩ => ⟨S512x4, .i32⟩
  | .local _ .vmem, ⟨6, _⟩ => ⟨S5x256, .f32⟩
  | .local _ .vmem, ⟨7, _⟩ => ⟨S3x256, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x4x1024, .f32⟩
  | .local _ .vmem, ⟨15, _⟩ => ⟨S512x4x1024, .f32⟩
  | _, _ => ⟨S4096x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_6 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call2_v0 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call3_v0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x4x1024 : Shape := ⟨3, ![4096, 4, 1024]⟩
abbrev S4096x4 : Shape := ⟨2, ![4096, 4]⟩
abbrev S8192x1x1024 : Shape := ⟨3, ![8192, 1, 1024]⟩
abbrev S5x256 : Shape := ⟨2, ![5, 256]⟩
abbrev S3x256 : Shape := ⟨2, ![3, 256]⟩
abbrev S8192 : Shape := ⟨1, ![8192]⟩
abbrev S8192x1 : Shape := ⟨2, ![8192, 1]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x512x1 : Shape := ⟨3, ![8192, 512, 1]⟩
abbrev S8192x512x2 : Shape := ⟨3, ![8192, 512, 2]⟩
abbrev S4096x1x1024 : Shape := ⟨3, ![4096, 1, 1024]⟩
abbrev S4096x4x1 : Shape := ⟨3, ![4096, 4, 1]⟩
abbrev S1 : Shape := ⟨1, ![1]⟩
abbrev S1x1x1 : Shape := ⟨3, ![1, 1, 1]⟩
abbrev S4096x4x256 : Shape := ⟨3, ![4096, 4, 256]⟩
abbrev S1x4096x1x4x1x256 : Shape := ⟨6, ![1, 4096, 1, 4, 1, 256]⟩
abbrev S1x4096x1x4x4x256 : Shape := ⟨6, ![1, 4096, 1, 4, 4, 256]⟩

abbrev nBuf : Space → Nat
  | .hbm => 92
  | .vmem => 0
  | .smem => 0
  | _ => 0

abbrev bufTy : (tb : Table) → Fin (tcTables nBuf tb) → BufTy
  | .hbm, ⟨0, _⟩ => ⟨S4096x4x1024, .f32⟩
  | .hbm, ⟨1, _⟩ => ⟨S4096x4, .i32⟩
  | .hbm, ⟨2, _⟩ => ⟨S4096x4, .i32⟩
  | .hbm, ⟨3, _⟩ => ⟨S8192x1x1024, .f32⟩
  | .hbm, ⟨4, _⟩ => ⟨S5x256, .f32⟩
  | .hbm, ⟨5, _⟩ => ⟨S3x256, .f32⟩
  | .hbm, ⟨6, _⟩ => ⟨S8192, .i32⟩
  | .hbm, ⟨7, _⟩ => ⟨S8192, .f32⟩
  | .hbm, ⟨8, _⟩ => ⟨S8192x1, .f32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512x1, .f32⟩
  | .hbm, ⟨32, _⟩ => ⟨S8192x512x1, .f32⟩
  | .hbm, ⟨33, _⟩ => ⟨S8192x512x2, .f32⟩
  | .hbm, ⟨34, _⟩ => ⟨S8192x1x1024, .f32⟩
  | .hbm, ⟨35, _⟩ => ⟨S4096x1x1024, .f32⟩
  | .hbm, ⟨36, _⟩ => ⟨S4096x4x1024, .f32⟩
  | .hbm, ⟨37, _⟩ => ⟨S4096x4x1024, .f32⟩
  | .hbm, ⟨38, _⟩ => ⟨S_, .i32⟩
  | .hbm, ⟨39, _⟩ => ⟨S4096x4, .i32⟩
  | .hbm, ⟨40, _⟩ => ⟨S4096x4, .i1⟩
  | .hbm, ⟨41, _⟩ => ⟨S_, .i32⟩
  | .hbm, ⟨42, _⟩ => ⟨S4096x4, .i32⟩
  | .hbm, ⟨43, _⟩ => ⟨S4096x4, .i32⟩
  | .hbm, ⟨44, _⟩ => ⟨S4096x4, .i32⟩
  | .hbm, ⟨45, _⟩ => ⟨S4096x4x1, .i32⟩
  | .hbm, ⟨46, _⟩ => ⟨S1, .i32⟩
  | .hbm, ⟨47, _⟩ => ⟨S_, .i32⟩
  | .hbm, ⟨48, _⟩ => ⟨S4096x4x1, .i32⟩
  | .hbm, ⟨49, _⟩ => ⟨S4096x4x1, .i1⟩
  | .hbm, ⟨50, _⟩ => ⟨S1x1x1, .i32⟩
  | .hbm, ⟨51, _⟩ => ⟨S4096x4x1, .i32⟩
  | .hbm, ⟨52, _⟩ => ⟨S4096x4x1, .i1⟩
  | .hbm, ⟨53, _⟩ => ⟨S4096x4x1, .i1⟩
  | .hbm, ⟨54, _⟩ => ⟨S_, .i1⟩
  | .hbm, ⟨55, _⟩ => ⟨S4096x4, .i1⟩
  | .hbm, ⟨56, _⟩ => ⟨S4096x4x256, .f32⟩
  | .hbm, ⟨57, _⟩ => ⟨S4096x4x256, .i1⟩
  | .hbm, ⟨58, _⟩ => ⟨S_, .f32⟩
  | .hbm, ⟨59, _⟩ => ⟨S4096x4x256, .f32⟩
  | .hbm, ⟨60, _⟩ => ⟨S4096x4x256, .f32⟩
  | .hbm, ⟨61, _⟩ => ⟨S1x4096x1x4x1x256, .f32⟩
  | .hbm, ⟨62, _⟩ => ⟨S1x4096x1x4x4x256, .f32⟩
  | .hbm, ⟨63, _⟩ => ⟨S4096x4x1024, .f32⟩
  | .hbm, ⟨64, _⟩ => ⟨S4096x4x1024, .f32⟩
  | .hbm, ⟨65, _⟩ => ⟨S_, .i32⟩
  | .hbm, ⟨66, _⟩ => ⟨S4096x4, .i32⟩
  | .hbm, ⟨67, _⟩ => ⟨S4096x4, .i1⟩
  | .hbm, ⟨68, _⟩ => ⟨S_, .i32⟩
  | .hbm, ⟨69, _⟩ => ⟨S4096x4, .i32⟩
  | .hbm, ⟨70, _⟩ => ⟨S4096x4, .i32⟩
  | .hbm, ⟨71, _⟩ => ⟨S4096x4, .i32⟩
  | .hbm, ⟨72, _⟩ => ⟨S4096x4x1, .i32⟩
  | .hbm, ⟨73, _⟩ => ⟨S1, .i32⟩
  | .hbm, ⟨74, _⟩ => ⟨S_, .i32⟩
  | .hbm, ⟨75, _⟩ => ⟨S4096x4x1, .i32⟩
  | .hbm, ⟨76, _⟩ => ⟨S4096x4x1, .i1⟩
  | .hbm, ⟨77, _⟩ => ⟨S1x1x1, .i32⟩
  | .hbm, ⟨78, _⟩ => ⟨S4096x4x1, .i32⟩
  | .hbm, ⟨79, _⟩ => ⟨S4096x4x1, .i1⟩
  | .hbm, ⟨80, _⟩ => ⟨S4096x4x1, .i1⟩
  | .hbm, ⟨81, _⟩ => ⟨S_, .i1⟩
  | .hbm, ⟨82, _⟩ => ⟨S4096x4, .i1⟩
  | .hbm, ⟨83, _⟩ => ⟨S4096x4x256, .f32⟩
  | .hbm, ⟨84, _⟩ => ⟨S4096x4x256, .i1⟩
  | .hbm, ⟨85, _⟩ => ⟨S_, .f32⟩
  | .hbm, ⟨86, _⟩ => ⟨S4096x4x256, .f32⟩
  | .hbm, ⟨87, _⟩ => ⟨S4096x4x256, .f32⟩
  | .hbm, ⟨88, _⟩ => ⟨S1x4096x1x4x1x256, .f32⟩
  | .hbm, ⟨89, _⟩ => ⟨S1x4096x1x4x4x256, .f32⟩
  | .hbm, ⟨90, _⟩ => ⟨S4096x4x1024, .f32⟩
  | .hbm, ⟨91, _⟩ => ⟨S4096x4x1024, .f32⟩
  | _, _ => ⟨S4096x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩

abbrev nD : Nat := 1
abbrev τ : Topo := Topo.v7x

variable {F : FTy → Type} [FloatOps F]
-- ==== Proof.Angles.lean ====
/-
  The mathematics of the positional table, over the extended reals.

  Both programs make the angle of position `n` and column `d` as `n * freq d`, where `freq d` is the exponential of
  `2 * (d / 2)` times the rate `(-log 10000) / 1024`. The reference takes the sine of the angle in the even columns
  and its cosine in the odd ones, at every position. The kernel takes sines and cosines at the multiples of 512 and
  at the positions below 512 only, and puts each row of the table together by the addition formulas.
-/
module

public import Idealize.ShloMosaic.Lib.Pointwise

@[expose] public section

noncomputable section

namespace Cert.Angles

open Idealize.ShloMosaic

/-- The rate of the frequencies: `(-log 10000) / 1024`, the two numbers read off their 32-bit float words. -/
def rate : EReal :=
  Ideal.div (-Ideal.log (Ideal.ofBits FTy.f32 1176256512#32)) (Ideal.ofBits FTy.f32 1149239296#32)

/-- The frequency of column `d`: the exponential of `2 * (d / 2)` times the rate. Columns `2 k` and `2 k + 1` share
    one. -/
def freq (d : ℕ) : EReal :=
  Ideal.exp (FloatOps.sitofp (F := Ideal) FTy.f32
    (IntOp.addi (0#32) (IntOp.muli (2#32) (BitVec.ofNat 32 (d / 2)))) * rate)

/-- The angle of the position that the word `n` holds, in column `d`. -/
def angle (n : BitVec 32) (d : ℕ) : EReal := FloatOps.sitofp (F := Ideal) FTy.f32 n * freq d

/-- The positional table at position `n`, column `d`: the angle's sine in an even column, its cosine in an odd one. -/
def sinusoid (n d : ℕ) : EReal :=
  if d % 2 < 1 then Ideal.sin (angle (BitVec.ofNat 32 n) d) else Ideal.cos (angle (BitVec.ofNat 32 n) d)

/-- The float word of ten thousand denotes ten thousand. -/
theorem ofBits_tenThousand : Ideal.ofBits FTy.f32 1176256512#32 = ((10000 : ℝ) : EReal) := by
  simp [Ideal.ofBits, Ideal.ieee, -EReal.coe_mul]; norm_num

/-- The float word of 1024 denotes 1024. -/
theorem ofBits_width : Ideal.ofBits FTy.f32 1149239296#32 = ((1024 : ℝ) : EReal) := by
  simp [Ideal.ofBits, Ideal.ieee, -EReal.coe_mul]; norm_num

/-- The float word of minus one denotes minus one. -/
theorem ofBits_negOne : Ideal.ofBits FTy.f32 3212836864#32 = ((-1 : ℝ) : EReal) := by
  simp [Ideal.ofBits, Ideal.ieee, -EReal.coe_mul, -EReal.coe_neg]; norm_num

/-- The rate is the real number `-log 10000 / 1024`. -/
theorem rate_eq : rate = ((-Real.log 10000 * (1024 : ℝ)⁻¹ : ℝ) : EReal) := by
  have h0 : ¬ ((10000 : ℝ) ≤ 0) := by norm_num
  have h1 : ((1024 : ℝ) : EReal) ≠ 0 := by
    rw [← EReal.coe_zero, Ne, EReal.coe_eq_coe_iff]; norm_num
  unfold rate
  rw [ofBits_tenThousand, ofBits_width, Ideal.log_coe, if_neg h0, Ideal.div, if_neg h1, ← EReal.coe_neg,
    ← EReal.coe_inv, ← EReal.coe_mul]

/-- The frequency of a column as a real number. -/
def freqReal (d : ℕ) : ℝ :=
  Real.exp (((IntOp.addi (0#32) (IntOp.muli (2#32) (BitVec.ofNat 32 (d / 2)))).toInt : ℝ)
    * (-Real.log 10000 * (1024 : ℝ)⁻¹))

/-- Every frequency is a real number. -/
theorem freq_eq (d : ℕ) : freq d = (freqReal d : EReal) := by
  unfold freq freqReal
  rw [rate_eq, ← Ideal.exp_coe, EReal.coe_mul]
  rfl

/-- Every angle is a real number: the position, read signed, times the frequency. -/
theorem angle_eq (n : BitVec 32) (d : ℕ) : angle n d = (((n.toInt : ℝ) * freqReal d : ℝ) : EReal) := by
  unfold angle
  rw [freq_eq, EReal.coe_mul]
  rfl

/-- The word of a position below 4096, read signed, is the position. -/
theorem toInt_position (n : ℕ) (hn : n < 4096) : (BitVec.ofNat 32 n).toInt = (n : ℤ) := by
  rw [BitVec.toInt_eq_toNat_of_lt (by rw [BitVec.toNat_ofNat]; omega), BitVec.toNat_ofNat]
  omega

/-- Block `t` starts at position `512 t`: the product of the two words is that position's word. -/
theorem blockStart (t : ℕ) : IntOp.muli (BitVec.ofNat 32 t) 512#32 = BitVec.ofNat 32 (t * 512) :=
  (BitVec.ofNat_mul t 512).symm

/-- The angle at row `s` of block `t`, as a real number, is the sum of the block's angle and the row's. -/
theorem angle_add (t s d : ℕ) (ht : t < 8) (hs : s < 512) :
    angle (BitVec.ofNat 32 (t * 512 + s)) d
      = ((((t * 512 : ℕ) : ℝ) * freqReal d + (s : ℝ) * freqReal d : ℝ) : EReal) := by
  rw [angle_eq, toInt_position _ (by omega)]
  congr 1
  push_cast
  ring

/-- The angle of a block's first row. -/
theorem angle_start (t d : ℕ) (ht : t < 8) :
    angle (IntOp.muli (BitVec.ofNat 32 t) 512#32) d = ((((t * 512 : ℕ) : ℝ) * freqReal d : ℝ) : EReal) := by
  rw [blockStart, angle_eq, toInt_position _ (by omega)]
  rfl

/-- The angle of a row within its block. -/
theorem angle_row (s d : ℕ) (hs : s < 512) :
    angle (BitVec.ofNat 32 s) d = (((s : ℝ) * freqReal d : ℝ) : EReal) := by
  rw [angle_eq, toInt_position _ (by omega)]
  rfl

/-- THE TABLE REBUILT. In an even column the block's sine times the row's cosine plus the block's cosine times the
    row's sine, and in an odd column the block's cosine times the row's cosine plus the block's sine times minus the
    row's sine, are the table at position `512 t + s`. -/
theorem rebuilt (t s d : ℕ) (ht : t < 8) (hs : s < 512) :
    (if d % 2 < 1 then Ideal.sin (angle (IntOp.muli (BitVec.ofNat 32 t) 512#32) d)
        else Ideal.cos (angle (IntOp.muli (BitVec.ofNat 32 t) 512#32) d)) * Ideal.cos (angle (BitVec.ofNat 32 s) d)
      + (if d % 2 < 1 then Ideal.cos (angle (IntOp.muli (BitVec.ofNat 32 t) 512#32) d)
          else Ideal.sin (angle (IntOp.muli (BitVec.ofNat 32 t) 512#32) d))
        * (Ideal.sin (angle (BitVec.ofNat 32 s) d) * (if d % 2 < 1 then ((1 : ℝ) : EReal) else ((-1 : ℝ) : EReal)))
      = sinusoid (t * 512 + s) d := by
  unfold sinusoid
  rw [angle_add t s d ht hs, angle_start t d ht, angle_row s d hs]
  split_ifs
  · rw [Ideal.sin_coe, Ideal.sin_coe, Ideal.sin_coe, Ideal.cos_coe, Ideal.cos_coe, Real.sin_add]
    simp only [← EReal.coe_mul, ← EReal.coe_add, mul_one]
  · rw [Ideal.sin_coe, Ideal.sin_coe, Ideal.cos_coe, Ideal.cos_coe, Ideal.cos_coe, Real.cos_add]
    simp only [← EReal.coe_mul, ← EReal.coe_add]
    congr 1
    ring

end Cert.Angles

end
-- ==== Proof.Spec.lean ====
/-
  What both programs compute, as one function of the five argument arrays they read: each element of `x`, plus the
  positional table, plus one row of each embedding table, repeated along the columns with period 256.
-/
module

public import proofs.«01_k».proof.Proof.Angles

@[expose] public section

noncomputable section

namespace Cert.Spec

open Idealize.ShloMosaic Cert.Angles

/-- The row that the word `w` selects in a table of rows `0 … n`: `w` read signed and brought into that range. -/
def row (n : ℕ) (w : BitVec 32) : Fin (n + 1) := ⟨min w.toInt.toNat n, by omega⟩

/-- The column of an embedding table that column `d` of the result reads: `d` modulo 256. -/
def col (d : Fin 1024) : Fin 256 := ⟨(d : ℕ) % 256, by omega⟩

/-- THE RESULT at position `s`, batch entry `b`, column `d`. -/
def result (x : (⟨3, ![4096, 4, 1024]⟩ : Shape).Idx → EReal) (aid pid : (⟨2, ![4096, 4]⟩ : Shape).Idx → BitVec 32)
    (anat : (⟨2, ![5, 256]⟩ : Shape).Idx → EReal) (phase : (⟨2, ![3, 256]⟩ : Shape).Idx → EReal)
    (s : Fin 4096) (b : Fin 4) (d : Fin 1024) : EReal :=
  x (ix3 s b d) + sinusoid s d
    + (anat (ix2 (row 4 (aid (ix2 s b))) (col d)) + phase (ix2 (row 2 (pid (ix2 s b))) (col d)))

/-- A word that is at least zero and below `n`, read signed, holds a number below `n`. -/
theorem word_of_range (n : ℕ) (hn : n < 2 ^ 31) (w : BitVec 32) (h0 : 0 ≤ w.toInt) (h1 : w.toInt < (n : ℤ)) :
    ∃ a : Fin n, w = BitVec.ofNat 32 a := by
  have e : w.toInt = (w.toNat : ℤ) := by
    rw [BitVec.toInt_eq_toNat_cond] at h0 ⊢
    have := w.isLt
    split at h0 <;> [rw [if_pos ‹_›]; omega]
  refine ⟨⟨w.toNat, by omega⟩, ?_⟩
  simp

end Cert.Spec

end
-- ==== Proof.Ids.lean ====
/-
  The precondition read at an index: every anatomy id is at least 0 and below 5, every phase id at least 0 and below 3.
-/
module

public import proofs.«01_k».proof.Proof.Gen.Pre_ids_in_range
public import proofs.«01_k».proof.Proof.Spec

@[expose] public section

noncomputable section

namespace Cert.Ids

open Idealize.ShloMosaic Cert.Spec

/-- A conjunction of two bits is set only where both are. -/
theorem andi_one {x y : BitVec 1} (h : IntOp.andi x y = 1#1) : x = 1#1 ∧ y = 1#1 := by
  revert x y
  decide

/-- Where the signed comparison `a ≥ b` gives the set bit, `b ≤ a`. -/
theorem of_sge {a b : BitVec 32} (h : IntOp.cmpi CmpIPredicate.sge a b = 1#1) : b.toInt ≤ a.toInt := by
  by_contra hn
  simp [IntOp.cmpi, BitVec.sle, hn] at h

/-- Where the signed comparison `a < b` gives the set bit, `a < b`. -/
theorem of_slt {a b : BitVec 32} (h : IntOp.cmpi CmpIPredicate.slt a b = 1#1) : a.toInt < b.toInt := by
  by_contra hn
  simp [IntOp.cmpi, BitVec.slt, hn] at h

/-- THE IDS. Under the precondition the anatomy id of every position and batch entry is the word of a number below 5,
    and the phase id that of a number below 3. -/
theorem of_pre (a0 : FVec Ideal Pre_ids_in_range.S4096x4x1024 .f32) (a1 a2 : IVec Pre_ids_in_range.S4096x4 32)
    (a3 : FVec Ideal Pre_ids_in_range.S8192x1x1024 .f32) (a4 : FVec Ideal Pre_ids_in_range.S5x256 .f32)
    (a5 : FVec Ideal Pre_ids_in_range.S3x256 .f32)
    (h : Cert.Pre_ids_in_range.fn (F := Ideal) a0 a1 a2 a3 a4 a5 = fun _ => 1#1) (s : Fin 4096) (b : Fin 4) :
    (∃ a : Fin 5, a1 (ix2 s b) = BitVec.ofNat 32 a) ∧ ∃ p : Fin 3, a2 (ix2 s b) = BitVec.ofNat 32 p := by
  have e := congrFun h (ix2 s b)
  pointwise [Cert.Pre_ids_in_range.fn] at e
  obtain ⟨e, h4⟩ := andi_one e
  obtain ⟨e, h3⟩ := andi_one e
  obtain ⟨h1, h2⟩ := andi_one e
  exact ⟨word_of_range 5 (by decide) _ (of_sge h1) (of_slt h2), word_of_range 3 (by decide) _ (of_sge h3) (of_slt h4)⟩

end Cert.Ids

end
-- ==== Proof.Tables.lean ====
/-
  The four tables that the host hands to the kernel, read at an index. They are built from integer ramps, one
  exponential per column pair, and the sine and cosine of a position times that frequency.
-/
module

public import proofs.«01_k».proof.Proof.Gen.KernelIdeal.Frame
public import proofs.«01_k».proof.Proof.Angles
public import Idealize.ShloMosaic.Lib.Claim
public import Idealize.ShloMosaic.Lib.StableHlo.ReadAt

@[expose] public section

set_option maxRecDepth 16384

noncomputable section

namespace Cert.KernelTables

open Cert.KernelIdeal Cert.KernelIdeal.Gen Idealize.ShloMosaic Idealize.ShloMosaic.TcCoe Idealize.SL.Sem
open Cert.Angles

/-- The column's remainder by two as the program computes it, compared with zero: the bit is set exactly in the even
    columns. -/
theorem even_bit (d : Fin 1024) :
    IntOp.cmpi CmpIPredicate.eq
      (Scalar.select
        (IntOp.andi
          (IntOp.cmpi CmpIPredicate.ne
            (IntOp.cmpi CmpIPredicate.slt
              (IntOp.remsi ArithUnit.host (BitVec.ofNat 32 ↑d)
                (Scalar.select (IntOp.cmpi CmpIPredicate.eq (2#32) 0#32) (1#32) (2#32)))
              0#32)
            (IntOp.cmpi CmpIPredicate.slt
              (Scalar.select (IntOp.cmpi CmpIPredicate.eq (2#32) 0#32) (1#32) (2#32)) 0#32))
          (IntOp.cmpi CmpIPredicate.ne
            (IntOp.remsi ArithUnit.host (BitVec.ofNat 32 ↑d)
              (Scalar.select (IntOp.cmpi CmpIPredicate.eq (2#32) 0#32) (1#32) (2#32)))
            0#32))
        (IntOp.addi
          (IntOp.remsi ArithUnit.host (BitVec.ofNat 32 ↑d)
            (Scalar.select (IntOp.cmpi CmpIPredicate.eq (2#32) 0#32) (1#32) (2#32)))
          (Scalar.select (IntOp.cmpi CmpIPredicate.eq (2#32) 0#32) (1#32) (2#32)))
        (IntOp.remsi ArithUnit.host (BitVec.ofNat 32 ↑d)
          (Scalar.select (IntOp.cmpi CmpIPredicate.eq (2#32) 0#32) (1#32) (2#32))))
      0#32 = if (d : ℕ) % 2 < 1 then 1#1 else 0#1 := by
  revert d
  decide +kernel

/-- A choice by a bit that a condition decides is the choice by the condition. -/
theorem select_ite {α : Type} (p : Prop) [Decidable p] (a b : α) :
    Scalar.select (if p then 1#1 else 0#1) a b = if p then a else b := by
  split <;> rfl

variable (m : (ℓ : Loc nD τ sig) → Buf (Elt Ideal) ℓ)

/-- The first table at row `s`, column `d`: the cosine of the row's angle. -/
theorem cf_apply (c : Dev nD) (s : Fin 512) (d : Fin 1024) :
    V m c main_v25 (ix2 s d) = Ideal.cos (angle (BitVec.ofNat 32 s) d) := by
  unfold_abbrev_sides
  after_reads_at
  rfl

/-- The second table at row `s`, column `d`: the sine of the row's angle, with the sign changed in the odd columns. -/
theorem ss_apply (c : Dev nD) (s : Fin 512) (d : Fin 1024) :
    V m c main_v35 (ix2 s d) = Ideal.sin (angle (BitVec.ofNat 32 s) d)
      * (if (d : ℕ) % 2 < 1 then ((1 : ℝ) : EReal) else ((-1 : ℝ) : EReal)) := by
  unfold_abbrev_sides
  after_reads_at
  simp only [id_eq]
  pointwise
  rw [even_bit, select_ite, ofBits_negOne]
  rfl

/-- The third table at block `t`, column `d`: the sine of the block's first angle in the even columns, its cosine in
    the odd ones. -/
theorem base_apply (c : Dev nD) (t : Fin 8) (d : Fin 1024) :
    V m c main_v53 (ix3 t 0 d)
      = if (d : ℕ) % 2 < 1 then Ideal.sin (angle (IntOp.muli (BitVec.ofNat 32 t) 512#32) d)
        else Ideal.cos (angle (IntOp.muli (BitVec.ofNat 32 t) 512#32) d) := by
  unfold_abbrev_sides
  after_reads_at
  simp only [id_eq]
  pointwise
  rw [even_bit, select_ite]
  rfl

/-- The fourth table at block `t`, column `d`: the third with sine and cosine exchanged. -/
theorem bswap_apply (c : Dev nD) (t : Fin 8) (d : Fin 1024) :
    V m c main_v56 (ix3 t 0 d)
      = if (d : ℕ) % 2 < 1 then Ideal.cos (angle (IntOp.muli (BitVec.ofNat 32 t) 512#32) d)
        else Ideal.sin (angle (IntOp.muli (BitVec.ofNat 32 t) 512#32) d) := by
  unfold_abbrev_sides
  after_reads_at
  simp only [id_eq]
  pointwise
  rw [even_bit, select_ite]
  rfl

end Cert.KernelTables

end
-- ==== Proof.Block.lean ====
/-
  What the kernel's body computes from the blocks it loads, read at an index: the positional part by the addition
  formulas, and the embedding part as a product with one-hot rows, which picks one row out of each table.
-/
module

public import proofs.«01_k».proof.Proof.Gen.KernelIdeal.Skeleton
public import proofs.«01_k».proof.Proof.Spec

@[expose] public section

set_option maxRecDepth 16384

noncomputable section

namespace Cert.KernelBlock

open Cert.KernelIdeal Cert.KernelIdeal.Gen Idealize.ShloMosaic
open Cert.Angles Cert.Spec

/-- The number zero or one that a comparison bit, widened to a word, turns into. -/
theorem sitofp_ite (p : Prop) [Decidable p] :
    FloatOps.sitofp (F := Ideal) FTy.f32 (if p then 1#32 else 0#32) = if p then (1 : EReal) else 0 := by
  split <;> simp [FloatOps.sitofp]

/-- A sum of terms of which all but one are multiplied by zero is the remaining term, whatever the terms are. -/
theorem sum_pick {n : ℕ} (k : Fin n) (f : Fin n → EReal) :
    (∑ x, (if x = k then (1 : EReal) else 0) * f x) = f k := by
  simp

/-- The anatomy row of a combined id `k` is `k / 3`: the floor division's comparison word. -/
theorem anat_word (k : Fin 15) (a : Fin 5) :
    BitVec.setWidth 32
      (IntOp.cmpi CmpIPredicate.eq
        (Scalar.select
          (IntOp.andi
            (IntOp.cmpi CmpIPredicate.ne
              (IntOp.subi (BitVec.setWidth 32 (IntOp.cmpi CmpIPredicate.sgt (BitVec.ofNat 32 ↑k) 0#32))
                (BitVec.setWidth 32 (IntOp.cmpi CmpIPredicate.slt (BitVec.ofNat 32 ↑k) 0#32)))
              (Scalar.subi (Scalar.extui (Scalar.cmpi CmpIPredicate.sgt 3#32 0#32))
                (Scalar.extui (Scalar.cmpi CmpIPredicate.slt 3#32 0#32))))
            (IntOp.cmpi CmpIPredicate.ne (IntOp.remsi ArithUnit.vector (BitVec.ofNat 32 ↑k) 3#32) 0#32))
          (IntOp.subi (IntOp.divsi ArithUnit.vector (BitVec.ofNat 32 ↑k) 3#32) 1#32)
          (IntOp.divsi ArithUnit.vector (BitVec.ofNat 32 ↑k) 3#32))
        (BitVec.ofNat 32 ↑a)) = if a = ⟨(k : ℕ) / 3, by omega⟩ then 1#32 else 0#32 := by
  revert k a
  decide +kernel

/-- The phase row of a combined id `k` is `k % 3`: the remainder's comparison word. -/
theorem phase_word (k : Fin 15) (p : Fin 3) :
    BitVec.setWidth 32
      (IntOp.cmpi CmpIPredicate.eq
        (Scalar.select
          (IntOp.andi
            (IntOp.xori
              (IntOp.cmpi CmpIPredicate.slt
                (IntOp.remsi ArithUnit.vector (BitVec.ofNat 32 ↑k)
                  (Scalar.select (Scalar.cmpi CmpIPredicate.eq 3#32 0#32) 1#32 3#32))
                0#32)
              (Scalar.cmpi CmpIPredicate.slt
                (Scalar.select (Scalar.cmpi CmpIPredicate.eq 3#32 0#32) 1#32 3#32) 0#32))
            (IntOp.cmpi CmpIPredicate.ne
              (IntOp.remsi ArithUnit.vector (BitVec.ofNat 32 ↑k)
                (Scalar.select (Scalar.cmpi CmpIPredicate.eq 3#32 0#32) 1#32 3#32))
              0#32))
          (IntOp.addi
            (IntOp.remsi ArithUnit.vector (BitVec.ofNat 32 ↑k)
              (Scalar.select (Scalar.cmpi CmpIPredicate.eq 3#32 0#32) 1#32 3#32))
            (Scalar.select (Scalar.cmpi CmpIPredicate.eq 3#32 0#32) 1#32 3#32))
          (IntOp.remsi ArithUnit.vector (BitVec.ofNat 32 ↑k)
            (Scalar.select (Scalar.cmpi CmpIPredicate.eq 3#32 0#32) 1#32 3#32)))
        (BitVec.ofNat 32 ↑p)) = if p = ⟨(k : ℕ) % 3, by omega⟩ then 1#32 else 0#32 := by
  revert k p
  decide +kernel

/-- The combined id of the pair `(a, p)` is `3 a + p`: its comparison word against each of the fifteen ids. -/
theorem id_word (a : Fin 5) (p : Fin 3) (k : Fin 15) :
    BitVec.setWidth 32
      (IntOp.cmpi CmpIPredicate.eq (IntOp.addi (IntOp.muli (BitVec.ofNat 32 ↑a) 3#32) (BitVec.ofNat 32 ↑p))
        (BitVec.ofNat 32 ↑k)) = if k = ⟨(a : ℕ) * 3 + p, by omega⟩ then 1#32 else 0#32 := by
  revert a p k
  decide +kernel

/-- The one-hot matrix of anatomy rows. -/
theorem anat_hot (k : Fin 15) (a : Fin 5) :
    k0_pay4 (F := Ideal) (ix2 k a) = if a = ⟨(k : ℕ) / 3, by omega⟩ then (1 : EReal) else 0 := by
  pointwise [k0_pay4]
  rw [anat_word, sitofp_ite]

/-- The anatomy table laid four times side by side, at column `d`, is the table at `d` modulo 256. -/
theorem anat_tiled (v : Vec Ideal S5x256 .f32) (a : Fin 5) (d : Fin 1024) :
    k0_pay2 (F := Ideal) v (ix2 a d) = v (ix2 a (col d)) := by
  pointwise [k0_pay2]
  unfold col
  split_ifs <;> (congr 2; refine Fin.ext ?_; show _ = (d : ℕ) % 256; simp only; omega)

/-- The phase table laid four times side by side, at column `d`, is the table at `d` modulo 256. -/
theorem phase_tiled (v : Vec Ideal S3x256 .f32) (p : Fin 3) (d : Fin 1024) :
    k0_pay3 (F := Ideal) v (ix2 p d) = v (ix2 p (col d)) := by
  pointwise [k0_pay3]
  unfold col
  split_ifs <;> (congr 2; refine Fin.ext ?_; show _ = (d : ℕ) % 256; simp only; omega)

/-- THE EMBEDDING PART. Where the two id words hold `a` below 5 and `p` below 3, the product of the one-hot rows with
    the fifteen sums of an anatomy row and a phase row is the sum of anatomy row `a` and phase row `p`. -/
theorem embed_apply (v1 : FVec Ideal S5x1024 .f32) (v3 : FVec Ideal S3x1024 .f32) (x1 x2 : Vec Ideal S512x4 .i32)
    (s : Fin 512) (b : Fin 4) (d : Fin 1024) (a : Fin 5) (p : Fin 3)
    (h1 : x1 (ix2 s b) = BitVec.ofNat 32 a) (h2 : x2 (ix2 s b) = BitVec.ofNat 32 p) :
    k0_pay9 (F := Ideal) v1 v3 (iota .tc S15x3 32 [1] iota_S15x3_d1_w32) (k0_pay4 (F := Ideal))
        (Scalar.select (Scalar.cmpi .eq 3#32 0#32) 1#32 3#32) k0_pay5 k0_pay6 k0_pay7 x1 x2 (ix3 s b d)
      = v1 (ix2 a d) + v3 (ix2 p d) := by
  pointwise [k0_pay9, k0_pay5, k0_pay6, k0_pay7]
  rw [h1, h2]
  simp only [id_word, anat_hot, phase_word, sitofp_ite, sum_pick]
  have ea : (⟨((a : ℕ) * 3 + p) / 3, by omega⟩ : Fin 5) = a := Fin.ext (by simp only; omega)
  have ep : (⟨((a : ℕ) * 3 + p) % 3, by omega⟩ : Fin 3) = p := Fin.ext (by simp only; omega)
  rw [ea, ep]

/-- The positional part at row `s`, column `d`: two products of a block's entry and a row's. -/
theorem angle_apply (v57 : Vec Ideal S1x1x1024 .f32) (v59 : Vec Ideal S512x1024 .f32)
    (v63 : Vec Ideal S1x1x1024 .f32) (v65 : Vec Ideal S512x1024 .f32) (s : Fin 512) (d : Fin 1024) :
    k0_pay8 (F := Ideal) v57 v59 v63 v65 (ix2 s d)
      = v57 (ix3 0 0 d) * v59 (ix2 s d) + v63 (ix3 0 0 d) * v65 (ix2 s d) := by
  pointwise [k0_pay8]

/-- What the body stores at an index: the block of `x`, plus the positional part of its row, plus the embedding
    part. -/
theorem stored_apply (v69 : FVec Ideal S512x1024 .f32) (v81 v82 : FVec Ideal S512x4x1024 .f32)
    (s : Fin 512) (b : Fin 4) (d : Fin 1024) :
    k0_pay1 (F := Ideal) v69 v81 v82 (ix3 s b d) = v82 (ix3 s b d) + v69 (ix2 s d) + v81 (ix3 s b d) := by
  pointwise [k0_pay1]

end Cert.KernelBlock

end
-- ==== Proof.KernelValue.lean ====
/-
  The kernel's result array after the run. Grid point `t` writes rows `512 t … 512 t + 511`; each element it writes
  is read at its index through the blocks that the point loads, and the eight blocks fill the array.
-/
module

public import proofs.«01_k».proof.Proof.Gen.KernelIdeal.Value
public import proofs.«01_k».proof.Proof.Tables
public import proofs.«01_k».proof.Proof.Block
public import Idealize.ShloMosaic.Lib.Pipeline.ValueKit

@[expose] public section

set_option maxRecDepth 16384

noncomputable section

namespace Cert.KernelValue

open Cert.KernelIdeal Cert.KernelIdeal.Gen Idealize.ShloMosaic Idealize.ShloMosaic.TcCoe Idealize.SL.Sem
open Cert.Angles Cert.Spec

variable (m : (ℓ : Loc nD τ sig) → Buf (Elt Ideal) ℓ)

/-- The whole result array as a function of the argument arrays. -/
def G (c : Dev nD) : S4096x4x1024.Idx → EReal := fun i =>
  Spec.result (m (c.tc.loc main_arg0)) (m (c.tc.loc main_arg1)) (m (c.tc.loc main_arg2))
    (m (c.tc.loc main_arg4)) (m (c.tc.loc main_arg5)) (i 0) (i 1) (i 2)

/-- The blocks of the windows at grid point `t`: the arrays cut along the positions are read at block `t`, the small
    tables whole. -/
theorem idx : ∀ t : Fin cfg0.N,
    win0_0.index t = ![t.val, 0, 0] ∧ win0_1.index t = ![t.val, 0] ∧ win0_2.index t = ![t.val, 0]
      ∧ win0_3.index t = ![0, 0] ∧ win0_4.index t = ![0, 0] ∧ win0_5.index t = ![0, 0] ∧ win0_6.index t = ![0, 0]
      ∧ win0_7.index t = ![t.val, 0, 0] ∧ win0_8.index t = ![t.val, 0, 0] ∧ win0_9.index t = ![t.val, 0, 0] :=
  (by decide +kernel : ∀ t : Fin grid0.N,
    win0_0.index t = ![t.val, 0, 0] ∧ win0_1.index t = ![t.val, 0] ∧ win0_2.index t = ![t.val, 0]
      ∧ win0_3.index t = ![0, 0] ∧ win0_4.index t = ![0, 0] ∧ win0_5.index t = ![0, 0] ∧ win0_6.index t = ![0, 0]
      ∧ win0_7.index t = ![t.val, 0, 0] ∧ win0_8.index t = ![t.val, 0, 0] ∧ win0_9.index t = ![t.val, 0, 0])

/-- There are eight grid points. -/
theorem points (t : Fin cfg0.N) : (t : ℕ) < 8 := lt_of_lt_of_eq t.isLt (by decide +kernel)

/-- The position that row `s` of block `t` holds. -/
def pos (t : Fin cfg0.N) (s : Fin 512) : Fin 4096 := ⟨t * 512 + s, by have := points t; omega⟩

/-- The block of `x` at point `t`. -/
theorem x_read (c : Dev nD) (t : Fin cfg0.N) (s : Fin 512) (b : Fin 4) (d : Fin 1024) :
    iblk m c 0 t (ix3 s b d) = m (c.tc.loc main_arg0) (ix3 (pos t s) b d) := by
  unfold pos
  blk_ext [iblk, V_main_arg0, (idx t).1]

/-- The block of anatomy ids at point `t`. -/
theorem aid_read (c : Dev nD) (t : Fin cfg0.N) (s : Fin 512) (b : Fin 4) :
    iblk m c 1 t (ix2 s b) = m (c.tc.loc main_arg1) (ix2 (pos t s) b) := by
  unfold pos
  blk_ext [iblk, V_main_arg1, (idx t).2.1]

/-- The block of phase ids at point `t`. -/
theorem pid_read (c : Dev nD) (t : Fin cfg0.N) (s : Fin 512) (b : Fin 4) :
    iblk m c 2 t (ix2 s b) = m (c.tc.loc main_arg2) (ix2 (pos t s) b) := by
  unfold pos
  blk_ext [iblk, V_main_arg2, (idx t).2.2.1]

/-- The anatomy table, whole at every point. -/
theorem anat_read (c : Dev nD) (t : Fin cfg0.N) (a : Fin 5) (e : Fin 256) :
    iblk m c 3 t (ix2 a e) = m (c.tc.loc main_arg4) (ix2 a e) := by
  blk_ext [iblk, V_main_arg4, (idx t).2.2.2.1]

/-- The phase table, whole at every point. -/
theorem phase_read (c : Dev nD) (t : Fin cfg0.N) (p : Fin 3) (e : Fin 256) :
    iblk m c 4 t (ix2 p e) = m (c.tc.loc main_arg5) (ix2 p e) := by
  blk_ext [iblk, V_main_arg5, (idx t).2.2.2.2.1]

/-- The first table of the host, whole at every point. -/
theorem cf_read (c : Dev nD) (t : Fin cfg0.N) (s : Fin 512) (d : Fin 1024) :
    iblk m c 5 t (ix2 s d) = V m c main_v25 (ix2 s d) := by
  blk_ext [iblk, (idx t).2.2.2.2.2.1]

/-- The second table of the host, whole at every point. -/
theorem ss_read (c : Dev nD) (t : Fin cfg0.N) (s : Fin 512) (d : Fin 1024) :
    iblk m c 6 t (ix2 s d) = V m c main_v35 (ix2 s d) := by
  blk_ext [iblk, (idx t).2.2.2.2.2.2.1]

/-- Row `t` of the third table of the host. -/
theorem base_read (c : Dev nD) (t : Fin cfg0.N) (d : Fin 1024) :
    iblk m c 7 t (ix3 0 0 d) = V m c main_v53 (ix3 ⟨t, points t⟩ 0 d) := by
  blk_ext [iblk, (idx t).2.2.2.2.2.2.2.1]

/-- Row `t` of the fourth table of the host. -/
theorem bswap_read (c : Dev nD) (t : Fin cfg0.N) (d : Fin 1024) :
    iblk m c 8 t (ix3 0 0 d) = V m c main_v56 (ix3 ⟨t, points t⟩ 0 d) := by
  blk_ext [iblk, (idx t).2.2.2.2.2.2.2.2.1]

/-- The place in the result array of an element of the block that point `t` writes. -/
theorem out_place (t : Fin cfg0.N) (s : Fin 512) (b : Fin 4) (d : Fin 1024) :
    ((View.whole main_v57).slice (win0_9.rect t)).emb (ix3 s b d) = ix3 (pos t s) b d := by
  unfold pos
  blk_ext [(idx t).2.2.2.2.2.2.2.2.2]

/-- The positional part that point `t` computes at row `s`, column `d`, is the table at the position of that row. -/
theorem angle_at (c : Dev nD) (t : Fin cfg0.N) (s : Fin 512) (d : Fin 1024) :
    k0_pay8 (F := Ideal) (iblk m c 7 t) (iblk m c 5 t) (iblk m c 8 t) (iblk m c 6 t) (ix2 s d)
      = sinusoid (pos t s) d := by
  refine (KernelBlock.angle_apply _ _ _ _ s d).trans ?_
  rw [base_read, cf_read, bswap_read, ss_read, KernelTables.base_apply, KernelTables.cf_apply,
    KernelTables.bswap_apply, KernelTables.ss_apply]
  exact rebuilt t s d (points t) s.isLt

/-- WHAT POINT `t` STORES at an index is the result at that index's place in the array. -/
theorem stored (c : Dev nD)
    (h : ∀ (s : Fin 4096) (b : Fin 4),
      (∃ a : Fin 5, (m (c.tc.loc main_arg1) : IVec S4096x4 32) (ix2 s b) = BitVec.ofNat 32 a)
      ∧ ∃ p : Fin 3, (m (c.tc.loc main_arg2) : IVec S4096x4 32) (ix2 s b) = BitVec.ofNat 32 p)
    (t : Fin cfg0.N) (s : Fin 512) (b : Fin 4) (d : Fin 1024) :
    k0_pay1 (F := Ideal) (k0_pay8 (iblk m c 7 t) (iblk m c 5 t) (iblk m c 8 t) (iblk m c 6 t))
      (k0_pay9 (k0_pay2 (iblk m c 3 t)) (k0_pay3 (iblk m c 4 t)) (iota .tc S15x3 32 [1] iota_S15x3_d1_w32)
        (k0_pay4 (F := Ideal)) (Scalar.select (Scalar.cmpi .eq 3#32 0#32) 1#32 3#32) k0_pay5 k0_pay6 k0_pay7
        (iblk m c 1 t) (iblk m c 2 t))
      (iblk m c 0 t) (ix3 s b d) = G m c (ix3 (pos t s) b d) := by
  obtain ⟨⟨a, ha⟩, p, hp⟩ := h (pos t s) b
  have ra : row 4 (BitVec.ofNat 32 a) = a := (by decide : ∀ a : Fin 5, row 4 (BitVec.ofNat 32 a) = a) a
  have rp : row 2 (BitVec.ofNat 32 p) = p := (by decide : ∀ p : Fin 3, row 2 (BitVec.ofNat 32 p) = p) p
  refine (KernelBlock.stored_apply _ _ _ s b d).trans ?_
  rw [angle_at, KernelBlock.embed_apply _ _ _ _ s b d a p ((aid_read m c t s b).trans ha)
    ((pid_read m c t s b).trans hp), KernelBlock.anat_tiled, KernelBlock.phase_tiled, x_read, anat_read, phase_read]
  show _ = Spec.result _ _ _ _ _ (pos t s) b d
  unfold Spec.result
  rw [ha, hp, ra, rp]

/-- THE RESULT ARRAY after the run, where every id is in range. -/
theorem final (c : Dev nD)
    (h : ∀ (s : Fin 4096) (b : Fin 4),
      (∃ a : Fin 5, (m (c.tc.loc main_arg1) : IVec S4096x4 32) (ix2 s b) = BitVec.ofNat 32 a)
      ∧ ∃ p : Fin 3, (m (c.tc.loc main_arg2) : IVec S4096x4 32) (ix2 s b) = BitVec.ofNat 32 p) :
    (dats m 0 c).arrAt 9 cfg0.N = G m c := by
  refine (dats m 0 c).arrAt_eq_of_covers 9 _ (by decide +kernel) fun t hf y => ?_
  blk_simp
  rw [after0_9]
  frame_out
  obtain ⟨s, b, d, rfl⟩ : ∃ (s : Fin 512) (b : Fin 4) (d : Fin 1024), y = ix3 s b d := ⟨y 0, y 1, y 2, eq_ix3 y⟩
  exact (stored m c h t s b d).trans (congrArg (G m c) (out_place t s b d).symm)

end Cert.KernelValue

end
-- ==== Proof.RefValue.lean ====
/-
  The reference's result read at an index: its table of sinusoids, and its two takes of embedding rows, which under
  the precondition read the row that the id names.
-/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.RefValue

open Cert.ReferenceIdeal Cert.ReferenceIdeal.Gen Idealize.ShloMosaic Idealize.ShloMosaic.TcCoe Idealize.SL.Sem
open Cert.Angles Cert.Spec

/-- A take of rows of a table `[N, 256]` by an array of row numbers `[4096, 4, 1]`: its dimension numbers. -/
abbrev rowsDims (N : ℕ)
    (wf : GatherDims.WF ⟨2, ![N, 256]⟩ ⟨3, ![4096, 4, 1]⟩ ⟨3, ![4096, 4, 256]⟩ [2] [0] [] [0] [] 2 ![1, 256]) :
    GatherDims ⟨2, ![N, 256]⟩ ⟨3, ![4096, 4, 1]⟩ ⟨3, ![4096, 4, 256]⟩ where
  offsetDims := [2]
  collapsedSliceDims := [0]
  operandBatchingDims := []
  startIndicesBatchingDims := []
  startIndexMap := [0]
  indexVectorDim := 2
  sliceSizes := ![1, 256]
  wf := wf

/-- Such a take at `(s, b, e)` is the table at column `e` of the row that the number at `(s, b)` selects, the number
    read signed and brought into the range of the rows. -/
theorem take_apply {α : Type} (n : ℕ)
    (wf : GatherDims.WF ⟨2, ![n + 1, 256]⟩ ⟨3, ![4096, 4, 1]⟩ ⟨3, ![4096, 4, 256]⟩ [2] [0] [] [0] [] 2 ![1, 256])
    (x : (⟨2, ![n + 1, 256]⟩ : Shape).Idx → α) (idx : IVec ⟨3, ![4096, 4, 1]⟩ 32)
    (s : Fin 4096) (b : Fin 4) (e : Fin 256) :
    Host.gather (rowsDims (n + 1) wf) x idx (ix3 s b e) = x (ix2 (row n (idx (ix3 s b 0))) e) := by
  have hs : (rowsDims (n + 1) wf).siIdx (ix3 s b e) ⟨List.idxOf (0 : Fin 2) (rowsDims (n + 1) wf).startIndexMap,
      List.idxOf_lt_length_iff.2 (List.mem_singleton.mpr rfl)⟩ = ix3 s b 0 := by
    funext k
    refine Fin.ext ?_
    match k with
    | ⟨0, _⟩ => rfl
    | ⟨1, _⟩ => rfl
    | ⟨2, _⟩ => rfl
  unfold Host.gather
  refine congrArg x (funext fun k => Fin.ext ?_)
  show (rowsDims (n + 1) wf).start (ix3 s b e) idx k + (rowsDims (n + 1) wf).batchCoord (ix3 s b e) k
    + (rowsDims (n + 1) wf).offCoord (ix3 s b e) k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowsDims (n + 1) wf).startIndexMap from List.mem_singleton.mpr rfl)]
    exact congrArg (fun j => min (idx j).toInt.toNat n) hs
  | ⟨1, _⟩ =>
    have h0 : (rowsDims (n + 1) wf).start (ix3 s b e) idx (1 : Fin 2) = 0 := by
      unfold GatherDims.start
      exact dif_neg (fun h => absurd (congrArg Fin.val (List.mem_singleton.mp h)) Nat.one_ne_zero)
    exact (congrArg (· + _) h0).trans (Nat.zero_add _)

/-- The bounds mask of a take is a conjunction over one entry. -/
theorem fold_one (f : Fin 1 → BitVec 1) (h : f 0 = 1#1) : Finset.fold IntOp.andi (1#1) f Finset.univ = 1#1 := by
  have e : (Finset.univ : Finset (Fin 1)) = {0} := rfl
  rw [e, Finset.fold_singleton, h]
  rfl

/-- A number below 5 is within the bounds of the anatomy table, and is not moved by the rule for negative numbers. -/
theorem anat_bounds (a : Fin 5) :
    (Scalar.select (IntOp.cmpi CmpIPredicate.slt (BitVec.ofNat 32 ↑a) 0#32) (IntOp.addi (BitVec.ofNat 32 ↑a) 5#32)
        (BitVec.ofNat 32 ↑a) = BitVec.ofNat 32 ↑a)
      ∧ IntOp.andi (IntOp.cmpi CmpIPredicate.sge (BitVec.ofNat 32 ↑a) 0#32)
        (IntOp.cmpi CmpIPredicate.sle (BitVec.ofNat 32 ↑a) 4#32) = 1#1 := by
  revert a
  decide

/-- A number below 3 is within the bounds of the phase table, and is not moved by the rule for negative numbers. -/
theorem phase_bounds (p : Fin 3) :
    (Scalar.select (IntOp.cmpi CmpIPredicate.slt (BitVec.ofNat 32 ↑p) 0#32) (IntOp.addi (BitVec.ofNat 32 ↑p) 3#32)
        (BitVec.ofNat 32 ↑p) = BitVec.ofNat 32 ↑p)
      ∧ IntOp.andi (IntOp.cmpi CmpIPredicate.sge (BitVec.ofNat 32 ↑p) 0#32)
        (IntOp.cmpi CmpIPredicate.sle (BitVec.ofNat 32 ↑p) 2#32) = 1#1 := by
  revert p
  decide

/-- The anatomy take at an index. -/
theorem anat_take {α : Type} (x : S5x256.Idx → α) (idx : IVec S4096x4x1 32) (s : Fin 4096) (b : Fin 4) (e : Fin 256) :
    Host.gather gather_S5x256_S4096x4x1_S4096x4x256_2_0_n_n_0_2_1256 x idx (ix3 s b e)
      = x (ix2 (row 4 (idx (ix3 s b 0))) e) :=
  take_apply 4 _ x idx s b e

/-- The phase take at an index. -/
theorem phase_take {α : Type} (x : S3x256.Idx → α) (idx : IVec S4096x4x1 32) (s : Fin 4096) (b : Fin 4) (e : Fin 256) :
    Host.gather gather_S3x256_S4096x4x1_S4096x4x256_2_0_n_n_0_2_1256 x idx (ix3 s b e)
      = x (ix2 (row 2 (idx (ix3 s b 0))) e) :=
  take_apply 2 _ x idx s b e

/-- THE REFERENCE'S RESULT at an index at which the ids are in range. -/
theorem result_apply (m : (ℓ : Loc nD τ sig) → Buf (Elt Ideal) ℓ) (c : Dev nD) (s : Fin 4096) (b : Fin 4)
    (d : Fin 1024)
    (h : (∃ a : Fin 5, (m (c.tc.loc main_arg1) : IVec S4096x4 32) (ix2 s b) = BitVec.ofNat 32 a)
      ∧ ∃ p : Fin 3, (m (c.tc.loc main_arg2) : IVec S4096x4 32) (ix2 s b) = BitVec.ofNat 32 p) :
    Value.res_main_v37 m c (ix3 s b d)
      = Spec.result (m (c.tc.loc main_arg0)) (m (c.tc.loc main_arg1)) (m (c.tc.loc main_arg2))
          (m (c.tc.loc main_arg4)) (m (c.tc.loc main_arg5)) s b d := by
  obtain ⟨⟨a, ha⟩, p, hp⟩ := h
  unfold Value.res_main_v37
  clean_types
  pointwise
  rw [anat_take, phase_take]
  pointwise
  rw [fold_one _ (by rw [ha, (anat_bounds a).1, (anat_bounds a).2]),
    fold_one _ (by rw [hp, (phase_bounds p).1, (phase_bounds p).2])]
  unfold Spec.result
  rw [ha, hp, (anat_bounds a).1, (phase_bounds p).1, ← add_assoc]
  simp only [dite_eq_ite]
  rfl

end Cert.RefValue

end
-- ==== Proof.lean ====
/-
  The proof of `Cert.Claim`: the programs run to the end and leave their arguments and every semaphore counter as they
  should be; the idealization rewrote nothing; and, where the ids are in range, the idealized kernel and the idealized
  reference end with equal results.

  The runs are the generated ones (Proof/Gen). Written by hand: the addition formulas (Proof/Angles.lean), the common
  result (Proof/Spec.lean), the host's tables (Proof/Tables.lean), the body's block (Proof/Block.lean), the kernel's
  array (Proof/KernelValue.lean), the reference's array (Proof/RefValue.lean), the precondition (Proof/Ids.lean).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_ids_in_range
public import proofs.«01_k».proof.Proof.Ids
public import proofs.«01_k».proof.Proof.KernelValue
public import proofs.«01_k».proof.Proof.RefValue
public import Idealize.ShloMosaic.Lib.Quiescent

@[expose] public section

noncomputable section

namespace Cert.Proof

open Idealize.ShloMosaic Idealize.SL.Sem

/-- The kernel runs from every memory, keeps its arguments and leaves every semaphore counter at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the idealized kernel where the ids are in range. -/
theorem frame_kernelIdeal_ids : Cert.quiescent_KernelIdeal_pre_ids_in_range :=
  fun m ρ _ => Cert.KernelIdeal.Gen.frame m ρ

/-- The idealized reference runs from every memory and keeps its arguments; it has no semaphore. -/
theorem frame_referenceIdeal : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- So does the idealized reference where the ids are in range. -/
theorem frame_referenceIdeal_ids : Cert.quiescent_ReferenceIdeal_pre_ids_in_range :=
  fun m ρ _ => frame_referenceIdeal m ρ trivial

/-- THE VALUE CLAIM. Where the ids are in range, the idealized kernel and the idealized reference, run on equal
    arguments, end with equal results: both are `Cert.Spec.result` at every index. -/
theorem algebraic : Cert.algebraic_KernelIdeal_ReferenceIdeal_pre_ids_in_range := by
  intro m g m' g' hpre hagree
  have hids : ∀ (c : Dev Cert.KernelIdeal.nD) (s : Fin 4096) (b : Fin 4), _ ∧ _ :=
    fun c s b => Cert.Ids.of_pre _ _ _ _ _ _ (hpre c) s b
  refine ⟨fun c => Cert.KernelValue.G m c, ?_, ?_⟩
  · exact (θ_run (Cert.KernelIdeal.defs (F := Ideal)) _ _).mono
      (fun r h c => ⟨(h c).1.trans (Cert.KernelValue.final m c (hids c)), (h c).2⟩)
      (Cert.KernelIdeal.Value.run_blocks (F := Ideal) m g)
  · refine (θ_run (Cert.ReferenceIdeal.defs (F := Ideal)) _ _).mono
      (fun r h c => ⟨(h c).1.trans ?_, (h c).2⟩)
      (Cert.ReferenceIdeal.Value.run (F := Ideal) m' g')
    obtain ⟨e0, e1, e2, -, e4, e5⟩ := hagree c
    funext i
    obtain ⟨s, b, d, rfl⟩ : ∃ (s : Fin 4096) (b : Fin 4) (d : Fin 1024), i = ix3 s b d := ⟨i 0, i 1, i 2, eq_ix3 i⟩
    refine (Cert.RefValue.result_apply m' c s b d ?_).trans ?_
    · rw [e1, e2]
      exact hids c s b
    · rw [e0, e1, e2, e4, e5]
      rfl

/-- Everything that is claimed. -/
theorem claim : Cert.Claim :=
  ⟨Cert.Kernel.Gen.facts, Cert.KernelIdeal.Gen.facts, Cert.ReferenceIdeal.Gen.facts, Cert.Pre_ids_in_range.Gen.facts,
    frame_kernel, frame_kernelIdeal, frame_kernelIdeal_ids, frame_referenceIdeal, frame_referenceIdeal_ids, trivial,
    algebraic⟩

end Cert.Proof

end
